-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S65536x128 : Shape := ⟨2, ![65536, 128]⟩
abbrev S262144 : Shape := ⟨1, ![262144]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel

variable [Facts]

def fn {F : FTy → Type} [FloatOps F] (main_arg0 : FVec F S65536x128 .f32) (main_arg1 : IVec S262144 32) (main_arg2 : IVec S_ 32) : IVec S_ 1 :=
  let main_c : IVec S_ 32 := constantI S_ 32 0#32
  let main_v0 : IVec S262144 32 := broadcastInDim S262144 ![] bcast_S_S262144 main_c
  let main_v1 : IVec S262144 1 := cmpi .sge main_arg1 main_v0
  let main_c_0 : IVec S_ 32 := constantI S_ 32 524288#32
  let main_v2 : IVec S262144 32 := broadcastInDim S262144 ![] bcast_S_S262144 main_c_0
  let main_v3 : IVec S262144 1 := cmpi .slt main_arg1 main_v2
  let main_v4 : IVec S262144 1 := andi main_v1 main_v3
  let main_c_1 : IVec S_ 1 := constantI S_ 1 1#1
  let main_v5 : IVec S_ 1 := (fun x v => Host.reduce IntOp.andi x v reducesTo_S262144_S_d0 h_S_) main_v4 main_c_1
  main_v5
-- ==== Kernel.lean ====
abbrev S65536x128 : Shape := ⟨2, ![65536, 128]⟩
abbrev S262144 : Shape := ⟨1, ![262144]⟩
abbrev S_ : Shape := ⟨0, ![]⟩
abbrev S262144x128 : Shape := ⟨2, ![262144, 128]⟩
abbrev S8192 : Shape := ⟨1, ![8192]⟩
abbrev S128x128 : Shape := ⟨2, ![128, 128]⟩
abbrev S16 : Shape := ⟨1, ![16]⟩
abbrev S128 : Shape := ⟨1, ![128]⟩

abbrev nBuf : Table → Nat
  | .hbm => 4
  | .local .scVector .vmem => 5
  | _ => 0

abbrev bufTy : (tb : Table) → Fin (nBuf tb) → BufTy
  | .hbm, ⟨0, _⟩ => ⟨S65536x128, .f32⟩
  | .hbm, ⟨1, _⟩ => ⟨S262144, .i32⟩
  | .hbm, ⟨2, _⟩ => ⟨S_, .i32⟩
  | .hbm, ⟨3, _⟩ => ⟨S262144x128, .f32⟩
  | .local .scVector .vmem, ⟨0, _⟩ => ⟨S8192, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S65536x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg14 : BitVec 32 := Scf.iv c0_i32_0 c1_i32 k0_t1
  let c16_i32 : BitVec 32 := 16#32
  let v25 : BitVec 32 := Scalar.muli arg14 c16_i32
  let v26 : Index := Scalar.indexCast v25
  ![v26.toNat]
@[reducible] def k0_t2_loop : Scf.Loop 32 :=
  let c0_i32_12 : BitVec 32 := 0#32
  let c15_i32 : BitVec 32 := 15#32
  let v12 : BitVec 32 := Scalar.addi c0_i32_12 c15_i32
  let c1_i32_13 : BitVec 32 := 1#32
  ⟨c0_i32_12, v12, c1_i32_13⟩
def k0_off3 (k0_t2 : Fin k0_t2_loop.trips) (c0_i32_27 : BitVec 32) : Fin 1 → Nat :=
  let c0_i32_12 : BitVec 32 := 0#32
  let c1_i32_13 : BitVec 32 := 1#32
  let arg14 : BitVec 32 := Scf.iv c0_i32_12 c1_i32_13 k0_t2
  let c4_i32 : BitVec 32 := 4#32
  let v25 : BitVec 32 := Scalar.muli arg14 c4_i32
  let v26 : BitVec 32 := Scalar.addi v25 c0_i32_27
  let c128_i32_28 : BitVec 32 := 128#32
  let v27 : BitVec 32 := Scalar.muli v26 c128_i32_28
  ![v27.toNat]
def k0_off4 (i : grid0.Coords) (k0_t2 : Fin k0_t2_loop.trips) (c0_i32_27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_12 : BitVec 32 := 0#32
  let c1_i32_13 : BitVec 32 := 1#32
  let arg14 : BitVec 32 := Scf.iv c0_i32_12 c1_i32_13 k0_t2
  let c4_i32 : BitVec 32 := 4#32
  let v25 : BitVec 32 := Scalar.muli arg14 c4_i32
  let v26 : BitVec 32 := Scalar.addi v25 c0_i32_27
  let c128_i32_31 : BitVec 32 := 128#32
  let v30 : BitVec 32 := Scalar.muli v26 c128_i32_31
  let v31 : BitVec 32 := Scalar.addi v2 v30
  let c0_i32_65_r1 : BitVec 32 := 0#32
  ![v31.toNat, 0]
def k0_off5 (k0_t2 : Fin k0_t2_loop.trips) (c0_i32_27 : BitVec 32) : Fin 1 → Nat :=
  let c0_i32_12 : BitVec 32 := 0#32
  let c1_i32_13 : BitVec 32 := 1#32
  let arg14 : BitVec 32 := Scf.iv c0_i32_12 c1_i32_13 k0_t2
  let c4_i32 : BitVec 32 := 4#32
  let v25 : BitVec 32 := Scalar.muli arg14 c4_i32
  let v26 : BitVec 32 := Scalar.addi v25 c0_i32_27
  let c4_i32_32 : BitVec 32 := 4#32
  let v32 : BitVec 32 := Scalar.addi v26 c4_i32_32
  let c128_i32_33 : BitVec 32 := 128#32
  let v33 : BitVec 32 := Scalar.muli v32 c128_i32_33
  ![v33.toNat]
def k0_off6 (i : grid0.Coords) (c7680_i32_17 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v15 : BitVec 32 := Scalar.addi v2 c7680_i32_17
  let c0_i32_27_r5 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x128 : Shape := ⟨2, ![65536, 128]⟩
abbrev S262144 : Shape := ⟨1, ![262144]⟩
abbrev S_ : Shape := ⟨0, ![]⟩
abbrev S65536x8x128 : Shape := ⟨3, ![65536, 8, 128]⟩
abbrev S524288x128 : Shape := ⟨2, ![524288, 128]⟩
abbrev S262144x1 : Shape := ⟨2, ![262144, 1]⟩
abbrev S1 : Shape := ⟨1, ![1]⟩
abbrev S1x1 : Shape := ⟨2, ![1, 1]⟩
abbrev S262144x128 : Shape := ⟨2, ![262144, 128]⟩

abbrev nBuf : Space → Nat
  | .hbm => 28
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S262144, .i32⟩
  | .hbm, ⟨2, _⟩ => ⟨S_, .i32⟩
  | .hbm, ⟨3, _⟩ => ⟨S65536x8x128, .f32⟩
  | .hbm, ⟨4, _⟩ => ⟨S524288x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S1, .i32⟩
  | .hbm, ⟨14, _⟩ => ⟨S_, .i32⟩
  | .hbm, ⟨15, _⟩ => ⟨S262144x1, .i32⟩
  | .hbm, ⟨16, _⟩ => ⟨S262144x1, .i1⟩
  | .hbm, ⟨17, _⟩ => ⟨S1x1, .i32⟩
  | .hbm, ⟨18, _⟩ => ⟨S262144x1, .i32⟩
  | .hbm, ⟨19, _⟩ => ⟨S262144x1, .i1⟩
  | .hbm, ⟨20, _⟩ => ⟨S262144x1, .i1⟩
  | .hbm, ⟨21, _⟩ => ⟨S_, .i1⟩
  | .hbm, ⟨22, _⟩ => ⟨S262144, .i1⟩
  | .hbm, ⟨23, _⟩ => ⟨S262144x128, .f32⟩
  | .hbm, ⟨24, _⟩ => ⟨S262144x128, .i1⟩
  | .hbm, ⟨25, _⟩ => ⟨S_, .f32⟩
  | .hbm, ⟨26, _⟩ => ⟨S262144x128, .f32⟩
  | .hbm, ⟨27, _⟩ => ⟨S262144x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩

abbrev nD : Nat := 1
abbrev τ : Topo := Topo.v7x

variable {F : FTy → Type} [FloatOps F]
-- ==== Proof.Pre.lean ====
/-
  The precondition, read off: where the predicate computes true, every index is below 524288.
-/
module

public import proofs.«01_k».proof.Defs
public import proofs.«01_k».proof.Proof.Gen.Pre_in_range
public import Idealize.ShloMosaic.Lib.ReduceAll

@[expose] public section

noncomputable section

namespace Cert.Proof

open Idealize.ShloMosaic

variable {F : FTy → Type} [FloatOps F]

/-- A word that is at least zero and less than 524288, both signed, is below 524288 as a natural number. -/
theorem below_of_compare (v : BitVec 32) (h : IntOp.andi (IntOp.cmpi .sge v 0#32) (IntOp.cmpi .slt v 524288#32) = 1#1) : v.toNat < 524288 := by
  obtain ⟨h0, h1⟩ := IntOp.andi_eq_one.1 h
  have e0 : (0#32).sle v = true := by
    cases hc : (0#32).sle v
    · rw [show IntOp.cmpi .sge v 0#32 = BitVec.ofBool ((0#32).sle v) from rfl, hc] at h0; exact absurd h0 (by decide)
    · rfl
  have e1 : v.slt 524288#32 = true := by
    cases hc : v.slt 524288#32
    · rw [show IntOp.cmpi .slt v 524288#32 = BitVec.ofBool (v.slt 524288#32) from rfl, hc] at h1; exact absurd h1 (by decide)
    · rfl
  rw [BitVec.sle_eq_decide, decide_eq_true_eq] at e0
  rw [BitVec.slt_eq_decide, decide_eq_true_eq] at e1
  simp only [BitVec.toInt_eq_toNat_cond, BitVec.toNat_ofNat, Nat.reducePow, Nat.reduceMod] at e0 e1
  omega

/-- Where the predicate is true, every index is below 524288. -/
theorem indices_below (x : FVec F Pre_in_range.S65536x128 .f32) (ids : IVec Pre_in_range.S262144 32) (n : IVec Pre_in_range.S_ 32)
    (h : Pre_in_range.fn x ids n = fun _ => 1#1) (j : Pre_in_range.S262144.Idx) : (ids j).toNat < 524288 := by
  have : Subsingleton Pre_in_range.S_.Idx := ⟨fun a b => funext fun k => k.elim0⟩
  have e := congrFun h (fun k => k.elim0)
  unfold Pre_in_range.fn at e
  exact below_of_compare _ (Host.reduce_andi_all _ _ _ _ _ e j)

end Cert.Proof

end
-- ==== Proof.StepsIdeal.lean ====
/-
  The steps of one task of the SparseCore gather: what a task's buffers hold at each point, as functions of the launch
  memory, and the two moves its program is made of — starting the gather of a chunk of 128 rows, and finishing one
  (waiting for it, copying its rows to their place in the output, waiting for the copy).
-/
module

public import proofs.«01_k».proof.Defs
public import proofs.«01_k».proof.Proof.Launch
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueKit (view_emb_slice_whole_unit_val)

variable {F : FTy → Type}

/-! ## The program's labels, calls and ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev xLoc (d : Dev nD) : Loc nD τ sig := (SparseCore.T d).loc main_arg0
abbrev iLoc (d : Dev nD) : Loc nD τ sig := (SparseCore.T d).loc main_arg1
abbrev nLoc (d : Dev nD) : Loc nD τ sig := (SparseCore.T d).loc main_arg2
abbrev oLoc (d : Dev nD) : Loc nD τ sig := (SparseCore.T d).loc main_v0

abbrev xV : Memref sig .scVector .hbm S65536x128 .f32 := Memref.whole main_arg0_scv
abbrev iV : Memref sig .scVector .hbm S262144 .i32 := Memref.whole main_arg1_scv
abbrev oV : Memref sig .scVector .hbm S262144x128 .f32 := Memref.whole main_v0_scv
abbrev sV : Memref sig .scVector .vmem S8192 .i32 := Memref.whole cc0_scratch0

/-- The task's number times 8192: the first row of the indices and of the output that is its own. -/
abbrev base (L : grid0.Coords) : ℕ := 16384 * (L 1).val + 8192 * (L 0).val

theorem base_le (L : grid0.Coords) : base L + 8192 ≤ 262144 := by
  have h0 : (L 0).val < 2 := (L 0).isLt
  have h1 : (L 1).val < 16 := (L 1).isLt
  unfold base; omega

/-- The whole of the data, as a gather addresses it. -/
abbrev xAll : Memref sig .scVector .hbm S65536x128 .f32 :=
  xV.slice (Rect.unit (s := S65536x128) ![0, 0] S65536x128.size inb_S65536x128_S65536x128_0_0) (fun _ => rfl)
/-- The task's 8192 indices. -/
abbrev iOwn (L : grid0.Coords) : Memref sig .scVector .hbm S8192 .i32 :=
  iV.slice (Rect.unit (s := S262144) (k0_off1 L) S8192.size (k0_off1_inb L)) (fun _ => rfl)
/-- 128 entries of the list of rows, from entry `off 0` on. -/
abbrev sPart (off : Fin 1 → ℕ) (h : ∀ a, off a + S128.size a ≤ S8192.size a) : Memref sig .scVector .vmem S128 .i32 :=
  sV.slice (Rect.unit (s := S8192) off S128.size h) (fun _ => rfl)
/-- 128 rows of the output, from row `off 0` on. -/
abbrev oPart (off : Fin 2 → ℕ) (h : ∀ a, off a + S128x128.size a ≤ S262144x128.size a) : Memref sig .scVector .hbm S128x128 .f32 :=
  oV.slice (Rect.unit (s := S262144x128) off S128x128.size h) (fun _ => rfl)

/-! ## The values -/

section Values

variable (m : (ℓ : Loc nD τ sig) → Buf (Elt F) ℓ) (d : Dev nD)

/-- Position `r` of the index array. -/
def iAt (r : ℕ) (h : r < 262144) : S262144.Idx := fun | 0 => ⟨r, h⟩
/-- Row `r`, column `l` of the data. -/
def xAt (r : ℕ) (h : r < 65536) (l : Fin 128) : S65536x128.Idx := fun | 0 => ⟨r, h⟩ | 1 => l

/-- The index at position `r` (zero past the end). -/
def word (r : ℕ) : BitVec 32 := if h : r < 262144 then m (iLoc d) (iAt r h) else 0#32
/-- What row `r` of the output is to hold: the data's row at a shift by three of the index there. -/
def rowVal (r : ℕ) (l : Fin 128) : Elt F .f32 := m (xLoc d) (xAt (((word m d r) >>> 3).toNat % 65536) (Nat.mod_lt _ (by decide)) l)
/-- What the whole output is to hold. -/
def out : Buf (Elt F) (oLoc d) := fun (j : S262144x128.Idx) => rowVal m d (j 0).val (j 1)

/-- A task's list after `k` of its rounds of sixteen: the first `16 * k` entries shifted, the others as fetched. -/
def listAt (b k : ℕ) : S8192.Idx → BitVec 32 := fun j => if (j 0).val < 16 * k then word m d (b + (j 0).val) >>> 3 else word m d (b + (j 0).val)
/-- A task's list of rows, every entry shifted. -/
def list (b : ℕ) : S8192.Idx → BitVec 32 := fun j => word m d (b + (j 0).val) >>> 3
/-- The 128 output rows from row `r` on. -/
def chunk (r : ℕ) : S128x128.Idx → Elt F .f32 := fun j => rowVal m d (r + (j 0).val) (j 1)
/-- The output once the rows `b` to `b + n` are in place. -/
def outAt (b n : ℕ) : Buf (Elt F) (oLoc d) := fun (j : S262144x128.Idx) => if b ≤ (j 0).val ∧ (j 0).val < b + n then out m d j else m (oLoc d) j

/-- Every index names a row of the data repeated eight times. -/
def PreOK : Prop := ∀ (d : Dev nD) (j : S262144.Idx), (m (iLoc d) j).toNat < 524288

theorem word_shift_lt (hpre : PreOK m) (r : ℕ) : (word m d r >>> 3).toNat < 65536 := by
  have h : (word m d r).toNat < 524288 := by
    unfold word; split
    · exact hpre d _
    · decide
  rw [BitVec.toNat_ushiftRight, Nat.shiftRight_eq_div_pow]; omega

theorem list_zero (b : ℕ) : listAt m d b 0 = fun j => word m d (b + (j 0).val) := by
  funext j; unfold listAt; rw [if_neg (by omega)]
theorem list_full (b : ℕ) : listAt m d b 512 = list m d b := by
  funext j; unfold listAt list; rw [if_pos (show (j 0).val < 16 * 512 from (j 0).isLt)]

theorem outAt_zero (b : ℕ) : outAt m d b 0 = m (oLoc d) := by
  funext j; unfold outAt; exact if_neg (by omega)

/-- The indices a task fetches. -/
theorem read_iOwn (L : grid0.Coords) : (iOwn L).view.read (Elt F) (m (iLoc d)) = fun (j : S8192.Idx) => word m d (base L + (j 0).val) := by
  funext j
  have hj : (j 0).val < 8192 := (j 0).isLt
  have hb := base_le L
  rw [View.read_apply]
  refine (cast_eq _ _).trans ?_
  unfold word
  rw [dif_pos (by omega)]
  congr 1
  funext a
  match a with
  | 0 =>
    apply Fin.ext
    refine (view_emb_slice_whole_unit_val main_arg1_scv (k0_off1 L) S8192.size (k0_off1_inb L) j 0).trans ?_
    exact congrArg (· + (j 0).val) (congrFun (k0_off1_eq L) 0)

/-- The 128 entries of the list from entry `n` on. -/
theorem read_sPart (b n : ℕ) (off : Fin 1 → ℕ) (h) (ho : off 0 = n) (x : S128.Idx) :
    (sPart off h).view.read (Elt F) (list m d b) x = word m d (b + (n + (x 0).val)) >>> 3 := by
  rw [View.read_apply]
  refine (cast_eq _ _).trans ?_
  unfold list
  have e := view_emb_slice_whole_unit_val cc0_scratch0 off S128.size h x 0
  rw [ho] at e
  exact congrArg (fun r => word m d (b + r) >>> 3) e

/-- The rows of the data that those entries name are the 128 output rows from row `b + n` on. -/
theorem gathered (hpre : PreOK m) (b n : ℕ) (off : Fin 1 → ℕ) (h) (ho : off 0 = n) (hn) (hin) :
    SparseCore.gatherPayload gathers_S65536x128_S128x128 (xAll.view.read (Elt F) (m (xLoc d)))
      (SparseCore.rows ((sPart off h).view.read (Elt F) (list m d b)) hn hin) = chunk m d (b + n) := by
  funext j
  unfold SparseCore.gatherPayload
  rw [View.read_apply]
  refine (cast_eq _ _).trans ?_
  unfold chunk rowVal
  congr 1
  funext a
  apply Fin.ext
  refine (view_emb_slice_whole_unit_val main_arg0_scv ![0, 0] S65536x128.size inb_S65536x128_S65536x128_0_0 _ a).trans ?_
  match a with
  | 0 =>
    refine (Nat.zero_add _).trans ?_
    refine (congrArg Fin.val (Shape.Gathers.idx_axis gathers_S65536x128_S128x128 _ j)).trans ?_
    show ((sPart off h).view.read (Elt F) (list m d b) (S128.rowMajor.symm ((j gathers_S65536x128_S128x128.axis').cast hn.symm))).toNat = _
    rw [read_sPart m d b n off h ho]
    have hx : ((S128.rowMajor.symm ((j gathers_S65536x128_S128x128.axis').cast hn.symm)) 0).val = (j 0).val :=
      (Shape.rowMajor_val_one _).symm.trans (congrArg Fin.val (Equiv.apply_symm_apply S128.rowMajor _))
    rw [hx]
    show _ = ((word m d (b + n + (j 0).val)) >>> 3).toNat % 65536
    rw [Nat.mod_eq_of_lt (word_shift_lt m d hpre _), Nat.add_assoc]
  | 1 =>
    refine (Nat.zero_add _).trans ?_
    exact Shape.Gathers.idx_of_ne gathers_S65536x128_S128x128 _ j 1 (by decide)

/-- Placing the 128 rows from row `b + n` on into the output takes it one chunk further. -/
theorem write_oPart (b n : ℕ) (off : Fin 2 → ℕ) (h) (ho : off 0 = b + n) (ho' : off 1 = 0) :
    (oPart off h).view.write (Elt F) (outAt m d b n) (chunk m d (b + n)) Finset.univ = outAt m d b (n + 128) := by
  funext j
  by_cases hj : j ∈ (oPart off h).view.set
  · obtain ⟨x, -, rfl⟩ := Finset.mem_map.mp hj
    have e0 := view_emb_slice_whole_unit_val main_v0_scv off S128x128.size h x 0
    have e1 := view_emb_slice_whole_unit_val main_v0_scv off S128x128.size h x 1
    rw [ho] at e0; rw [ho'] at e1
    have hx : (x 0).val < 128 := (x 0).isLt
    rw [View.write_emb_of_mem _ _ (Finset.mem_univ x)]
    refine (cast_eq _ _).trans ?_
    have hin : b ≤ (((oPart off h).view.emb x) 0).val ∧ (((oPart off h).view.emb x) 0).val < b + (n + 128) := by
      constructor
      · exact e0 ▸ (by omega)
      · exact e0 ▸ (by omega)
    refine Eq.trans ?_ (if_pos hin).symm
    show rowVal m d _ _ = rowVal m d _ _
    congr 1
    · exact e0.symm
    · exact Fin.ext ((Nat.zero_add _).symm.trans e1.symm)
  · rw [View.write_of_not_mem _ _ _ (by rwa [View.setOn_univ])]
    have hn : ¬(b + n ≤ (j 0).val ∧ (j 0).val < b + n + 128) := fun hr => hj (by
      rw [View.set_slice_whole]
      refine Rect.mem_set_unit.mpr fun a => ?_
      match a with
      | 0 => rw [ho]; exact hr
      | 1 => rw [ho']; exact ⟨Nat.zero_le _, by rw [Nat.zero_add]; exact (j 1).isLt⟩)
    unfold outAt
    by_cases hc : b ≤ (j 0).val ∧ (j 0).val < b + n
    · rw [if_pos hc, if_pos ⟨hc.1, by omega⟩]
    · rw [if_neg hc, if_neg (by omega)]

/-- The positions of the index array from `b` to `b + 8192`. -/
def iRows (b : ℕ) : Finset S262144.Idx := Finset.univ.filter fun j => b ≤ (j 0).val ∧ (j 0).val < b + 8192
/-- The elements of the output in its rows from `b` to `b + 8192`. -/
def oRows (b : ℕ) : Finset S262144x128.Idx := Finset.univ.filter fun j => b ≤ (j 0).val ∧ (j 0).val < b + 8192

/-- A chunk's rows are among the task's. -/
theorem oPart_subset (b n : ℕ) (hn : n + 128 ≤ 8192) (off : Fin 2 → ℕ) (h) (ho : off 0 = b + n) : (oPart off h).view.set ⊆ oRows b := by
  intro j hj
  rw [View.set_slice_whole] at hj
  have h0 := Rect.mem_set_unit.mp hj 0
  rw [ho] at h0
  have h2 : (j 0).val < b + n + 128 := h0.2
  exact Finset.mem_filter.mpr ⟨Finset.mem_univ j, by omega, by omega⟩

/-- The indices a task fetches are those of its positions. -/
theorem set_iOwn (L : grid0.Coords) : (iOwn L).view.set = iRows (base L) := by
  have e : k0_off1 L 0 = base L := congrFun (k0_off1_eq L) 0
  ext j
  rw [View.set_slice_whole, Rect.mem_set_unit]
  unfold iRows
  rw [Finset.mem_filter]
  constructor
  · intro h
    have h0 := h 0
    rw [e] at h0
    exact ⟨Finset.mem_univ j, h0⟩
  · intro h a
    match a with
    | 0 => rw [e]; exact h.2

/-- All 8192 rows in place: on the task's rows the output is as it is to be. -/
theorem outAt_full (b : ℕ) : ∀ j ∈ oRows b, outAt m d b 8192 j = out m d j := fun _ hj => if_pos (Finset.mem_filter.mp hj).2

end Values

/-! ## The steps -/

section Moves

variable (m : (ℓ : Loc nD τ sig) → Buf (Elt F) ℓ) (d : Dev nD) (c : Fin τ.nSC) (i : Fin τ.nSub) (b : ℕ)
variable (O : CellTallies nD τ sig (HIx 1)) (W : Waits sig (HIx 1))

/-- The task's obligations: as on entry, but for waits on its own transfers. -/
def owing : sProp 𝕄 := iprop(∃ W', ⌜∀ p ∈ W', p ∈ W ∨ p.2 = none⌝ ∗ owes (V d c i) O W')

/-- A row buffer at some contents. -/
def free (buf : Memref sig .scVector .vmem S128x128 .f32) : sProp 𝕄 := iprop(∃ f, buf.view.loc (V d c i) ↦{fullShare} f)

/-- What a gather's wait gives back: the row buffer holding the 128 output rows from row `r` on, and the shares of the
    data and of the list of rows. -/
def got (buf : Memref sig .scVector .vmem S128x128 .f32) (q ql : PosShare TreeShare) (r : ℕ) : sProp 𝕄 :=
  iprop((∃ f, ⌜buf.view.read (Elt F) f = chunk m d r⌝ ∗ (buf.view.loc (V d c i) ↦{fullShare} f))
    ∗ (xAll.view.loc (V d c i) ↦{q} m (xLoc d)) ∗ (sV.view.loc (V d c i) ↦{ql} list m d b))

/-- A gather of the 128 output rows from row `r` on, under way. -/
def flying (buf : Memref sig .scVector .vmem S128x128 .f32) (sem : DmaSem sig) (q ql : PosShare TreeShare) (r : ℕ) : sProp 𝕄 :=
  Transfers.Flight countersEmb (V d c i) (.dma sem) (none : HIx 1) buf.view.dmaCredit (got m d c i b buf q ql r)

variable [FloatOps F]

/-- Starting a gather: from a row buffer, shares of the data and of the list, and the semaphore at zero. -/
theorem start (hpre : PreOK m) (buf : Memref sig .scVector .vmem S128x128 .f32) (sem : DmaSem sig) (q ql : PosShare TreeShare)
    (n : ℕ) (off : Fin 1 → ℕ) (h) (ho : off 0 = n) {hp : (V d c i).2.kind = .scVector} {hn}
    {hsrc : xAll.view.WordExact} {he : EltTy.f32.bits = 32} {hsp : Space.hbm = .hbm ∨ Space.hbm = .shared} {hr : S65536x128.StreamRows 0}
    {α : Type} {Q : α → sProp 𝕄} {k : PUnit → Prog (TpuEff nD τ sig (Elt F) Λ₀ (V d c i).2) α} :
    iprop(free d c i buf ∗ (xAll.view.loc (V d c i) ↦{q} m (xLoc d)) ∗ (sV.view.loc (V d c i) ↦{ql} list m d b) ∗ semVal (V d c i, .dma sem) 0)
      ⊢ iprop((flying m d c i b buf sem q ql (b + n) -∗ wp frame (wpE (defs₀ (F := F)) 𝒱₀ (V d c i) none) Set.univ (k ⟨⟩) Q)
          -∗ wp frame (wpE (defs₀ (F := F)) 𝒱₀ (V d c i) none) Set.univ
            (SparseCore.enqueueIndirectGather hp xAll buf gathers_S65536x128_S128x128 (sPart off h) hn sem hsrc he hsp hr >>= k) Q) := by
  unfold free flying got
  have hN := SparseCore.sum_rowCredit_eq_dmaCredit buf gathers_S65536x128_S128x128.axis' (fun _ => rfl)
  have hin : ∀ x, ((sPart off h).view.read (Elt F) (list m d b) x).toNat < S65536x128.size gathers_S65536x128_S128x128.axis := fun x => by
    rw [read_sPart m d b n off h ho]; exact word_shift_lt m d hpre _
  iintro ⟨⟨%f, Hb⟩, Hx, Hl, Hs⟩ Hk
  iapply (SparseCore.wp_gatherFromWhole countersEmb 𝒱₀ (V d c i) none (offs := sPart off h) (none : HIx 1) buf.view.dmaCredit hN (by decide) hin) $$ [Hb Hx Hl Hs]
  · iframe Hx Hb Hl Hs
  iintro Hf
  iapply Hk
  iapply (Transfers.Flight_mono countersEmb (V d c i) (by
    iintro ⟨Hb, Hx, Hl⟩
    isplitl [Hb]
    · iexists _
      isplitr
      swap; · iexact Hb
      ipureintro
      rw [View.read_write_univ]
      exact gathered m d hpre b n off h ho _ _
    isplitl [Hx]; · iexact Hx
    iexact Hl)) $$ Hf

/-- Finishing one: its wait, the copy of its rows to their place in the output, and the copy's wait. -/
theorem finish (buf : Memref sig .scVector .vmem S128x128 .f32) (sem osem : DmaSem sig) (q ql : PosShare TreeShare)
    (n : ℕ) (hn : n + 128 ≤ 8192) (off : Fin 2 → ℕ) (h) (ho : off 0 = b + n) (ho' : off 1 = 0)
    {hs1 : xAll.view.WordExact} {hs2 : buf.view.WordExact} {hs3 : (oPart off h).view.WordExact}
    {hs4 : DmaTarget.Typed (nD := nD) Space.vmem (.dma osem) (.here (oPart off h) : DmaTarget nD τ sig (V d c i).2 _ _ _)} {hs5 : (oPart off h).view.WordExact} {hs6 : buf.view.WordExact}
    {α : Type} {Q : α → sProp 𝕄} {k : PUnit → Prog (TpuEff nD τ sig (Elt F) Λ₀ (V d c i).2) α} :
    iprop(Transfers.MayWaits (V d c i) (none : HIx 1) O ∗ flying m d c i b buf sem q ql (b + n) ∗ (oV.view.loc (V d c i) ↦[oRows b]{fullShare} outAt m d b n)
        ∗ semVal (V d c i, .dma osem) 0 ∗ owing d c i O W)
      ⊢ iprop((iprop((free d c i buf ∗ (xAll.view.loc (V d c i) ↦{q} m (xLoc d)) ∗ (sV.view.loc (V d c i) ↦{ql} list m d b) ∗ semVal (V d c i, .dma sem) 0)
              ∗ (oV.view.loc (V d c i) ↦[oRows b]{fullShare} outAt m d b (n + 128)) ∗ semVal (V d c i, .dma osem) 0 ∗ owing d c i O W)
            -∗ wp frame (wpE (defs₀ (F := F)) 𝒱₀ (V d c i) none) Set.univ (k ⟨⟩) Q)
          -∗ wp frame (wpE (defs₀ (F := F)) 𝒱₀ (V d c i) none) Set.univ
            (SparseCore.waitIndirectGather sem xAll buf hs1 hs2 >>= fun _ =>
              Prog.lift (.enqueueDma buf (.here (oPart off h)) (.dma osem) hs6 hs3 hs4) >>= fun _ =>
              Prog.lift (.waitDma2 osem buf (oPart off h) hs2 hs5) >>= k) Q) := by
  unfold flying got owing
  iintro ⟨#Hmw, Hf, Ho, Hs, %W', %hW', HO⟩ Hk
  iapply (Transfers.wp_waitLocalO countersEmb 𝒱₀ (V d c i) none (none : HIx 1) (rfl : buf.view.dmaCredit = _)) $$ [Hf HO]
  · iframe Hf HO
    iapply (Transfers.MayWaits.elim (SemLoc.dma sem)) $$ Hmw
  iintro ⟨⟨⟨%f, %hf, Hb⟩, Hx, Hl⟩, Hg, HO⟩
  iapply (Transfers.wp_dmaFromWhole countersEmb 𝒱₀ (V d c i) none (none : HIx 1) ((oPart off h).view.amount (.dma osem)) rfl
    (View.amount_pos _ _ (show 0 < S128x128.numel by decide)) (oPart_subset b n hn off h ho)) $$ [Hb Ho Hs]
  · iframe Hb Ho Hs
  iintro Hf
  iapply (Transfers.wp_waitLocalO countersEmb 𝒱₀ (V d c i) none (none : HIx 1) (rfl : (oPart off h).view.dmaCredit = (oPart off h).view.amount (.dma osem))) $$ [Hf HO]
  · iframe Hf HO
    iapply (Transfers.MayWaits.elim (SemLoc.dma osem)) $$ Hmw
  iintro ⟨⟨Ho, Hb⟩, Hs, HO⟩
  iapply Hk
  isplitl [Hb Hx Hl Hg]
  · iframe Hx Hl Hg
    unfold free; iexists _; iexact Hb
  isplitl [Ho]
  · iapply (Entails.of_eq (congrArg (fun g => (oV.view.loc (V d c i) ↦[oRows b]{fullShare} g : sProp 𝕄)) (by
      rw [← write_oPart m d b n off h ho ho', ← hf]))) $$ Ho
  iframe Hs
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Moves

end Cert.Proof.KernelIdeal

end
-- ==== Proof.TileIdeal.lean ====
/-
  One task of the SparseCore gather, from its program: the fetch of its indices, the loop that shifts them, the four
  gathers started ahead, the loop that finishes one and starts the next, and the last four. At the end the task's rows of
  the output hold the rows of the data that its indices name.
-/
module

public import proofs.«01_k».proof.Proof.StepsIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)
open Idealize.ShloMosaic.ValueKit (view_emb_slice_whole_unit_val)

variable {F : FTy → Type}

local notation "𝕄" => MT nD τ sig (HIx 1) (Elt F) ℕ UU ℕ

abbrev b1 : Memref sig .scVector .vmem S128x128 .f32 := Memref.whole cc0_scratch1
abbrev b2 : Memref sig .scVector .vmem S128x128 .f32 := Memref.whole cc0_scratch2
abbrev b3 : Memref sig .scVector .vmem S128x128 .f32 := Memref.whole cc0_scratch3
abbrev b4 : Memref sig .scVector .vmem S128x128 .f32 := Memref.whole cc0_scratch4

/-! ## What a subcore owns -/

/-- Thirteen pieces, one after another. -/
theorem bigSep_thirteen (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

/-- Five pieces, one after another. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- Four pieces, one after another. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

section Owned

variable (d : Dev nD) (c : Fin τ.nSC) (i : Fin τ.nSub)

/-- The semaphore that the kernel's `k`-th semaphore parameter is. -/
def semOf : Fin 13 → DmaSem sig
  | 0 => cc0_scratch5.sem | 1 => cc0_scratch6.sem | 2 => cc0_scratch7.sem | 3 => cc0_scratch8.sem
  | 4 => cc0_scoped0.sem | 5 => cc0_scoped1.sem | 6 => cc0_scoped2.sem | 7 => cc0_scoped3.sem | 8 => cc0_scoped4.sem
  | 9 => cc0_scoped5.sem | 10 => cc0_scoped6.sem | 11 => cc0_scoped7.sem | 12 => cc0_scoped8.sem

theorem semOf_injective : Function.Injective semOf := by decide

theorem semOf_scoped : ∀ k, (SemLoc.dma (semOf k) : SemLoc sig).isScoped .scVector = true := by decide

/-- The thirteen as semaphores of one subcore. -/
def cells : Finset (GSem nD τ sig) := Finset.univ.map ⟨fun k => (V d c i, SemLoc.dma (semOf k)), fun _ _ h => semOf_injective (SemLoc.dma.inj (Prod.mk.inj h).2)⟩

theorem cells_subset : cells d c i ⊆ ownCells (V d c i) := by
  intro g hg
  obtain ⟨k, -, rfl⟩ := Finset.mem_map.mp hg
  exact mem_ownCells.mpr ⟨rfl, semOf_scoped k⟩

/-- A subcore's semaphores at zero: the thirteen, and the others. -/
theorem ownSems0_V : (ownSems0 (V d c i) : sProp 𝕄)
    = iprop((semVal (V d c i, .dma cc0_scratch5.sem) 0 ∗ semVal (V d c i, .dma cc0_scratch6.sem) 0 ∗ semVal (V d c i, .dma cc0_scratch7.sem) 0
        ∗ semVal (V d c i, .dma cc0_scratch8.sem) 0 ∗ semVal (V d c i, .dma cc0_scoped0.sem) 0 ∗ semVal (V d c i, .dma cc0_scoped1.sem) 0
        ∗ semVal (V d c i, .dma cc0_scoped2.sem) 0 ∗ semVal (V d c i, .dma cc0_scoped3.sem) 0 ∗ semVal (V d c i, .dma cc0_scoped4.sem) 0
        ∗ semVal (V d c i, .dma cc0_scoped5.sem) 0 ∗ semVal (V d c i, .dma cc0_scoped6.sem) 0 ∗ semVal (V d c i, .dma cc0_scoped7.sem) 0
        ∗ semVal (V d c i, .dma cc0_scoped8.sem) 0)
      ∗ bigSep (ownCells (V d c i) \ cells d c i) fun g => semVal g 0) := by
  unfold SparseCore.Cfg.ownSems0
  rw [bigSep_sdiff_split (cells_subset d c i)]
  refine congrArg (fun p : sProp 𝕄 => iprop(p ∗ _)) ?_
  unfold cells
  rw [bigSep_map]
  exact bigSep_thirteen fun k => semVal (V d c i, SemLoc.dma (semOf k)) 0

/-- The kernel's `k`-th scratch buffer. -/
def bufOf : Fin 5 → Ref sig .scVector
  | 0 => cc0_scratch0 | 1 => cc0_scratch1 | 2 => cc0_scratch2 | 3 => cc0_scratch3 | 4 => cc0_scratch4

theorem bufOf_injective : Function.Injective bufOf := by decide

/-- The five as buffers of one subcore. -/
def bufs : Finset (DevRef τ sig) := Finset.univ.map ⟨fun k => (Proc.scVector c i).devRef (bufOf k), fun _ _ h => bufOf_injective (Proc.devRef_injective _ h)⟩

theorem bufs_subset : bufs c i ⊆ ownRefs (.scVector c i) := by
  intro r hr
  obtain ⟨k, -, rfl⟩ := Finset.mem_map.mp hr
  refine SparseCore.Cfg.mem_ownRefs_of_owner (p := Proc.scVector c i) ?_
  match k with
  | 0 => rfl | 1 => rfl | 2 => rfl | 3 => rfl | 4 => rfl

/-- A subcore's buffers at some contents: the five, and the others. -/
theorem ownBufs_V : (ownBufs (V d c i) : sProp 𝕄)
    = iprop(((∃ f, (V d c i).loc cc0_scratch0 ↦{fullShare} f) ∗ free d c i b1 ∗ free d c i b2 ∗ free d c i b3 ∗ free d c i b4)
      ∗ bigSep (ownRefs (.scVector c i) \ bufs c i) fun b => iprop(∃ f, ((d, b) : Loc nD τ sig) ↦{fullShare} f)) := by
  unfold SparseCore.Cfg.ownBufs
  refine (bigSep_sdiff_split (bufs_subset c i)).trans ?_
  refine congrArg (fun p : sProp 𝕄 => iprop(p ∗ _)) ?_
  unfold bufs
  rw [bigSep_map]
  exact bigSep_five fun k => iprop(∃ f, ((d, (Proc.scVector c i).devRef (bufOf k)) : Loc nD τ sig) ↦{fullShare} f)

end Owned

/-! ## The two loops -/

abbrev cV (L : grid0.Coords) : Fin τ.nSC := (L 0).castLE hcore0
abbrev jV (L : grid0.Coords) : Fin τ.nSub := (L 1).castLE hsub0

variable [FloatOps F]
variable (m : (ℓ : Loc nD τ sig) → Buf (Elt F) ℓ) (d : Dev nD) (L : grid0.Coords)
variable (O : CellTallies nD τ sig (HIx 1)) (W : Waits sig (HIx 1))

/-- One trip of the loop that shifts the indices. -/
abbrev shiftBody : Fin k0_t1_loop.trips → PUnit → Prog (TpuEff nD τ sig (Elt F) Λ₀ (V d (cV L) (jV L)).2) PUnit :=
  k0_t1_body L xV (Memref.isWhole_whole _) iV (Memref.isWhole_whole _) oV (Memref.isWhole_whole _) sV (Memref.isWhole_whole _)
    b1 (Memref.isWhole_whole _) b2 (Memref.isWhole_whole _) b3 (Memref.isWhole_whole _) b4 (Memref.isWhole_whole _)
    cc0_scratch5 cc0_scratch6 cc0_scratch7 cc0_scratch8 cc0_scoped0 cc0_scoped1 cc0_scoped2 cc0_scoped3 cc0_scoped4
    cc0_scoped5 cc0_scoped6 cc0_scoped7 cc0_scoped8

/-- One trip of the loop that finishes four gathers and starts the next four. -/
abbrev roundBody (v : BitVec 32) : Fin k0_t2_loop.trips → PUnit → Prog (TpuEff nD τ sig (Elt F) Λ₀ (V d (cV L) (jV L)).2) PUnit :=
  k0_t2_body L xV (Memref.isWhole_whole _) iV (Memref.isWhole_whole _) oV (Memref.isWhole_whole _) sV (Memref.isWhole_whole _)
    b1 (Memref.isWhole_whole _) b2 (Memref.isWhole_whole _) b3 (Memref.isWhole_whole _) b4 (Memref.isWhole_whole _)
    cc0_scratch5 cc0_scratch6 cc0_scratch7 cc0_scratch8 cc0_scoped0 cc0_scoped1 cc0_scoped2 cc0_scoped3 cc0_scoped4
    cc0_scoped5 cc0_scoped6 cc0_scoped7 cc0_scoped8 v

theorem shr_three (u : ArithUnit) (a : BitVec 32) : IntOp.shrui u a 3#32 = a >>> (3#32) := by
  unfold IntOp.shrui
  exact if_pos (by decide)

/-- A round's stored word is the loaded one shifted. -/
theorem pay1_apply (v : Vec F S16 .i32) (x : S16.Idx) : k0_pay1 (F := F) v x = (v x : BitVec 32) >>> (3#32) := by
  unfold k0_pay1 shapeCast
  simp only [Shape.reshapeEquiv_self]
  exact shr_three _ (v x)

/-- Shifting the sixteen entries of round `k` takes the list one round further. -/
theorem shift_write (b : ℕ) (k : Fin k0_t1_loop.trips) (h) :
    sV.view.writes (Elt F) (listAt m d b k.val) [⟨Rect.unit (s := S8192) (k0_off2 k) S16.size h,
        k0_pay1 (F := F) (View.readAt (Elt F) sV.view (Rect.unit (s := S8192) (k0_off2 k) S16.size h).toLoadRect (listAt m d b k.val))⟩]
      = listAt m d b (k.val + 1) := by
  show (sV.view.slice (Rect.unit (s := S8192) (k0_off2 k) S16.size h)).write (Elt F) (listAt m d b k.val)
      (k0_pay1 (F := F) ((sV.view.slice (Rect.unit (s := S8192) (k0_off2 k) S16.size h)).read (Elt F) (listAt m d b k.val))) Finset.univ = _
  have ho : k0_off2 k 0 = 16 * k.val := congrFun (k0_off2_eq k) 0
  funext j
  by_cases hj : j ∈ (sV.view.slice (Rect.unit (s := S8192) (k0_off2 k) S16.size h)).set
  · obtain ⟨x, -, rfl⟩ := Finset.mem_map.mp hj
    have e : (((sV.view.slice (Rect.unit (s := S8192) (k0_off2 k) S16.size h)).emb x) 0).val = 16 * k.val + (x 0).val :=
      (view_emb_slice_whole_unit_val cc0_scratch0 (k0_off2 k) S16.size h x 0).trans (congrArg (· + (x 0).val) ho)
    have hx : (x 0).val < 16 := (x 0).isLt
    rw [View.write_emb_of_mem _ _ (Finset.mem_univ x)]
    refine (cast_eq _ _).trans ?_
    rw [pay1_apply, View.read_apply]
    unfold listAt
    refine (congrArg (· >>> (3#32)) ((cast_eq _ _).trans (if_neg (by rw [e]; omega)))).trans ?_
    refine Eq.trans ?_ (if_pos (by rw [e]; omega)).symm
    rfl
  · rw [View.write_of_not_mem _ _ _ (by rwa [View.setOn_univ])]
    have hn : ¬(16 * k.val ≤ (j 0).val ∧ (j 0).val < 16 * k.val + 16) := fun hr => hj (by
      rw [View.set_slice_whole]
      refine Rect.mem_set_unit.mpr fun a => ?_
      match a with
      | 0 => rw [ho]; exact hr)
    unfold listAt
    by_cases hc : (j 0).val < 16 * k.val
    · rw [if_pos hc, if_pos (by omega)]
    · rw [if_neg hc, if_neg (by omega)]

/-- A trip of the shifting loop takes the list one round further. -/
theorem shift_trip (b : ℕ) (k : Fin k0_t1_loop.trips) :
    (sV.view.loc (V d (cV L) (jV L)) ↦{fullShare} listAt m d b k.val : sProp 𝕄)
      ⊢ wp frame (wpE (defs₀ (F := F)) 𝒱₀ (V d (cV L) (jV L)) none) Set.univ (shiftBody d L k ⟨⟩)
          fun _ => (sV.view.loc (V d (cV L) (jV L)) ↦{fullShare} listAt m d b (k.val + 1) : sProp 𝕄) := by
  iintro Hs
  unfold shiftBody k0_t1_body
  sl_exec
  sl_step
  iapply (Entails.of_eq (congrArg (fun f => (sV.view.loc (V d (cV L) (jV L)) ↦{fullShare} f : sProp 𝕄)) (shift_write m d b k (k0_off2_inb k)))) $$ Hs

/-- Before round `g`: four gathers under way, for the next four chunks, and the output's rows so far in place. -/
def rounds (q : PosShare TreeShare) (g : ℕ) : sProp 𝕄 :=
  iprop(Transfers.MayWaits (V d (cV L) (jV L)) (none : HIx 1) O
    ∗ flying m d (cV L) (jV L) (base L) b1 cc0_scratch5.sem (leaf 2 q 0) (leaf 2 fullShare 0) (base L + 512 * g)
    ∗ flying m d (cV L) (jV L) (base L) b2 cc0_scratch6.sem (leaf 2 q 1) (leaf 2 fullShare 1) (base L + (512 * g + 128))
    ∗ flying m d (cV L) (jV L) (base L) b3 cc0_scratch7.sem (leaf 2 q 2) (leaf 2 fullShare 2) (base L + (512 * g + 256))
    ∗ flying m d (cV L) (jV L) (base L) b4 cc0_scratch8.sem (leaf 2 q 3) (leaf 2 fullShare 3) (base L + (512 * g + 384))
    ∗ (oV.view.loc (V d (cV L) (jV L)) ↦[oRows (base L)]{fullShare} outAt m d (base L) (512 * g))
    ∗ semVal (V d (cV L) (jV L), .dma cc0_scoped1.sem) 0 ∗ semVal (V d (cV L) (jV L), .dma cc0_scoped2.sem) 0
    ∗ semVal (V d (cV L) (jV L), .dma cc0_scoped3.sem) 0 ∗ semVal (V d (cV L) (jV L), .dma cc0_scoped4.sem) 0
    ∗ owing d (cV L) (jV L) O W)

theorem off4_at (g : Fin k0_t2_loop.trips) (r : Fin 4) (n : ℕ) (h : n = 512 * g.val + 128 * r.val) : k0_off4 L g (BitVec.ofNat 32 r.val) 0 = base L + n := by
  refine (congrFun (k0_off4_eq L g r) 0).trans ?_
  show 16384 * (L 1).val + 8192 * (L 0).val + 512 * g.val + 128 * r.val = _
  unfold base; omega

theorem off5_at (g : Fin k0_t2_loop.trips) (r : Fin 4) (n : ℕ) (h : n = 512 * g.val + 128 * r.val + 512) : k0_off5 g (BitVec.ofNat 32 r.val) 0 = n :=
  (congrFun (k0_off5_eq g r) 0).trans h.symm

/-- A round: from four gathers under way to the next four, with four more chunks of the output in place. -/
theorem round_trip (hpre : PreOK m) (q : PosShare TreeShare) (v : BitVec 32) (g : Fin k0_t2_loop.trips) :
    rounds m d L O W q g.val
      ⊢ wp frame (wpE (defs₀ (F := F)) 𝒱₀ (V d (cV L) (jV L)) none) Set.univ (roundBody d L v g ⟨⟩)
          fun _ => rounds m d L O W q (g.val + 1) := by
  have hg : g.val < 15 := Nat.lt_of_lt_of_le g.isLt k0_t2_abs.2.1
  unfold rounds
  iintro ⟨#Hmw, H1, H2, H3, H4, Ho, S1, S2, S3, S4, HO⟩
  unfold roundBody k0_t2_body
  simp only [k0_part1_eq_skeleton, k0_part2_eq_skeleton]
  unfold k0_part1_skel k0_part2_skel
  simp only [bind_assoc, pure_bind]
  iapply (finish m d (cV L) (jV L) (base L) O W b1 cc0_scratch5.sem cc0_scoped1.sem (leaf 2 q 0) (leaf 2 fullShare 0) (512 * g.val) (by omega)
    _ (k0_off4_inb L g 0) (off4_at L g 0 _ (show _ = 512 * g.val + 128 * 0 by omega)) (congrFun (k0_off4_eq L g 0) 1)) $$ [H1 Ho S1 HO]
  · iframe Hmw H1 Ho S1 HO
  iintro ⟨H1, Ho, S1, HO⟩
  iapply (start m d (cV L) (jV L) (base L) hpre b1 cc0_scratch5.sem (leaf 2 q 0) (leaf 2 fullShare 0) (512 * (g.val + 1))
    _ (k0_off5_inb g 0) (off5_at g 0 _ (show _ = 512 * g.val + 128 * 0 + 512 by omega))) $$ H1
  iintro H1
  iapply (finish m d (cV L) (jV L) (base L) O W b2 cc0_scratch6.sem cc0_scoped2.sem (leaf 2 q 1) (leaf 2 fullShare 1) (512 * g.val + 128) (by omega)
    _ (k0_off4_inb L g 1) (off4_at L g 1 _ (show _ = 512 * g.val + 128 * 1 by omega)) (congrFun (k0_off4_eq L g 1) 1)) $$ [H2 Ho S2 HO]
  · iframe Hmw H2 Ho S2 HO
  iintro ⟨H2, Ho, S2, HO⟩
  iapply (start m d (cV L) (jV L) (base L) hpre b2 cc0_scratch6.sem (leaf 2 q 1) (leaf 2 fullShare 1) (512 * (g.val + 1) + 128)
    _ (k0_off5_inb g 1) (off5_at g 1 _ (show _ = 512 * g.val + 128 * 1 + 512 by omega))) $$ H2
  iintro H2
  iapply (finish m d (cV L) (jV L) (base L) O W b3 cc0_scratch7.sem cc0_scoped3.sem (leaf 2 q 2) (leaf 2 fullShare 2) (512 * g.val + 256) (by omega)
    _ (k0_off4_inb L g 2) (off4_at L g 2 _ (show _ = 512 * g.val + 128 * 2 by omega)) (congrFun (k0_off4_eq L g 2) 1)) $$ [H3 Ho S3 HO]
  · iframe Hmw H3 Ho S3 HO
  iintro ⟨H3, Ho, S3, HO⟩
  iapply (start m d (cV L) (jV L) (base L) hpre b3 cc0_scratch7.sem (leaf 2 q 2) (leaf 2 fullShare 2) (512 * (g.val + 1) + 256)
    _ (k0_off5_inb g 2) (off5_at g 2 _ (show _ = 512 * g.val + 128 * 2 + 512 by omega))) $$ H3
  iintro H3
  iapply (finish m d (cV L) (jV L) (base L) O W b4 cc0_scratch8.sem cc0_scoped4.sem (leaf 2 q 3) (leaf 2 fullShare 3) (512 * g.val + 384) (by omega)
    _ (k0_off4_inb L g 3) (off4_at L g 3 _ (show _ = 512 * g.val + 128 * 3 by omega)) (congrFun (k0_off4_eq L g 3) 1)) $$ [H4 Ho S4 HO]
  · iframe Hmw H4 Ho S4 HO
  iintro ⟨H4, Ho, S4, HO⟩
  iapply (start m d (cV L) (jV L) (base L) hpre b4 cc0_scratch8.sem (leaf 2 q 3) (leaf 2 fullShare 3) (512 * (g.val + 1) + 384)
    _ (k0_off5_inb g 3) (off5_at g 3 _ (show _ = 512 * g.val + 128 * 3 + 512 by omega))) $$ H4
  iintro H4
  ihave Ho := (Entails.of_eq (congrArg (fun n => (oV.view.loc (V d (cV L) (jV L)) ↦[oRows (base L)]{fullShare} outAt m d (base L) n : sProp 𝕄))
    (show 512 * g.val + 384 + 128 = 512 * (g.val + 1) by omega))) $$ Ho
  sl_step
  iframe Hmw H1 H2 H3 H4 Ho S1 S2 S3 S4 HO

/-! ## The task -/

/-- A share of a buffer as four. -/
theorem four_shares {ℓ : Loc nD τ sig} (f : Buf (Elt F) ℓ) (q : PosShare TreeShare) : (ℓ ↦{q} f : sProp 𝕄)
    = iprop((ℓ ↦{leaf 2 q 0} f) ∗ (ℓ ↦{leaf 2 q 1} f) ∗ (ℓ ↦{leaf 2 q 2} f) ∗ (ℓ ↦{leaf 2 q 3} f)) :=
  (pointsTo_leaves Finset.univ f 2 q).trans (bigSep_four fun i => (ℓ ↦{leaf 2 q i} f : sProp 𝕄))

theorem off6_at (r : Fin 4) (n : ℕ) (h : n = 7680 + 128 * r.val) : k0_off6 L (BitVec.ofNat 32 (7680 + 128 * r.val)) 0 = base L + n := by
  refine (congrFun (k0_off6_eq L r) 0).trans ?_
  show 16384 * (L 1).val + 8192 * (L 0).val + 128 * r.val + 7680 = _
  unfold base; omega

/-- What a task works on: its rows of the indices, a share of the data, and its rows of the output, at contents `f`. -/
def piece (b : ℕ) (q : PosShare TreeShare) (f : Buf (Elt F) (oLoc d)) : sProp 𝕄 :=
  iprop((iLoc d ↦[iRows b]{fullShare} m (iLoc d)) ∗ (xLoc d ↦{q} m (xLoc d)) ∗ (oLoc d ↦[oRows b]{fullShare} f))

/-- The task: from its indices, a share of the data, its rows of the output and its own scratch, to its rows of the output
    holding the rows of the data that its indices name, the rest as before. -/
theorem tile_body (hF : (K (F := F)).Facts) (hpre : PreOK m) (q : PosShare TreeShare) (hO : ∀ g, O g none = 0) :
    iprop(levAts (K (F := F)).L (K (F := F)).lev ∗ emp
        ∗ piece m d (base L) q (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L xV (Memref.isWhole_whole _) iV (Memref.isWhole_whole _) oV (Memref.isWhole_whole _) sV (Memref.isWhole_whole _)
            b1 (Memref.isWhole_whole _) b2 (Memref.isWhole_whole _) b3 (Memref.isWhole_whole _) b4 (Memref.isWhole_whole _)
            cc0_scratch5 cc0_scratch6 cc0_scratch7 cc0_scratch8 cc0_scoped0 cc0_scoped1 cc0_scoped2 cc0_scoped3 cc0_scoped4
            cc0_scoped5 cc0_scoped6 cc0_scoped7 cc0_scoped8)
          fun _ => iprop(piece m d (base L) q (out m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold piece
  simp only [cc0_gather_kernel_eq_skeleton]; unfold cc0_gather_kernel_skel
  simp only [k0_part3_eq_skeleton, k0_part4_eq_skeleton]
  unfold k0_part3_skel k0_part4_skel
  simp only [bind_assoc, pure_bind]
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨⟨%fs, Hs⟩, B1, B2, B3, B4⟩, Hbufs⟩, ⟨⟨P1, P2, P3, P4, S0, S1, S2, S3, S4, S5, S6, S7, S8⟩, Hsems⟩, HO⟩
  ihave #Hmw := (show levAts (K (F := F)).L (K (F := F)).lev ⊢ (Transfers.MayWaits (V d (cV L) (jV L)) (none : HIx 1) O : sProp 𝕄) from
    (K (F := F)).mayWaits_none (thr := V d (cV L) (jV L)) hO) $$ Hlv
  ihave Hi := (Entails.of_eq (show (iLoc d ↦[iRows (base L)]{fullShare} m (iLoc d) : sProp 𝕄)
    = (iOwn L).view.loc (V d (cV L) (jV L)) ↦[(iOwn L).view.set]{fullShare} m (iLoc d) by rw [set_iOwn])) $$ Hi
  ihave Hs := (Entails.of_eq (show ((V d (cV L) (jV L)).loc cc0_scratch0 ↦{fullShare} fs : sProp 𝕄) = sV.view.loc (V d (cV L) (jV L)) ↦{fullShare} fs from rfl)) $$ Hs
  sl_exec
  have hl : ∀ v, v = (iOwn L).view.read (Elt F) (m (iLoc d)) → View.write (Elt F) sV.view fs v Finset.univ = listAt m d (base L) 0 := by
    rintro v rfl
    rw [list_zero, read_iOwn]
    exact View.write_whole_univ _ _ _
  ihave Hs := (Entails.of_eq (congrArg (fun f => (sV.view.loc (V d (cV L) (jV L)) ↦{fullShare} f : sProp 𝕄)) (hl (tile_body.sl.dma0 m d L) rfl))) $$ Hs
  iapply (Scf.wp_for_bind frame (wpE (defs₀ (F := F)) 𝒱₀ (V d (cV L) (jV L)) none) Set.univ _ _ _ k0_t1_ok ⟨⟩ (shiftBody d L)
    (fun k _ => (sV.view.loc (V d (cV L) (jV L)) ↦{fullShare} listAt m d (base L) k : sProp 𝕄)) (fun k _ => shift_trip m d L (base L) k)) $$ Hs
  iintro %_ Hs
  ihave Hs := (Entails.of_eq (congrArg (fun f => (sV.view.loc (V d (cV L) (jV L)) ↦{fullShare} f : sProp 𝕄)) ((congrArg (listAt m d (base L))
    (show Scf.trips k0_t1_loop.lb k0_t1_loop.ub k0_t1_loop.st = 512 by decide)).trans (list_full m d (base L))))) $$ Hs
  ihave Hs := (Entails.of_eq (four_shares (ℓ := sV.view.loc (V d (cV L) (jV L))) (list m d (base L)) fullShare)) $$ Hs
  ihave Hx := (Entails.of_eq (four_shares (ℓ := xLoc d) (m (xLoc d)) q)) $$ Hx
  icases Hs with ⟨L1, L2, L3, L4⟩
  icases Hx with ⟨X1, X2, X3, X4⟩
  iapply (start m d (cV L) (jV L) (base L) hpre b1 cc0_scratch5.sem (leaf 2 q 0) (leaf 2 fullShare 0) 0
    _ inb_S8192_S128_0 rfl) $$ [B1 X1 L1 P1]
  · iframe B1 X1 L1 P1
  iintro H1
  iapply (start m d (cV L) (jV L) (base L) hpre b2 cc0_scratch6.sem (leaf 2 q 1) (leaf 2 fullShare 1) 128
    _ inb_S8192_S128_128 rfl) $$ [B2 X2 L2 P2]
  · iframe B2 X2 L2 P2
  iintro H2
  iapply (start m d (cV L) (jV L) (base L) hpre b3 cc0_scratch7.sem (leaf 2 q 2) (leaf 2 fullShare 2) 256
    _ inb_S8192_S128_256 rfl) $$ [B3 X3 L3 P3]
  · iframe B3 X3 L3 P3
  iintro H3
  iapply (start m d (cV L) (jV L) (base L) hpre b4 cc0_scratch8.sem (leaf 2 q 3) (leaf 2 fullShare 3) 384
    _ inb_S8192_S128_384 rfl) $$ [B4 X4 L4 P4]
  · iframe B4 X4 L4 P4
  iintro H4
  iapply (Scf.wp_for_bind frame (wpE (defs₀ (F := F)) 𝒱₀ (V d (cV L) (jV L)) none) Set.univ _ _ _ k0_t2_ok ⟨⟩ (roundBody d L _)
    (fun g _ => rounds m d L O W q g) (fun g _ => round_trip m d L O W hpre q _ g)) $$ [H1 H2 H3 H4 Ho S1 S2 S3 S4 HO]
  · unfold rounds owing
    iframe Hmw H1 H2 H3 H4 S1 S2 S3 S4
    isplitl [Ho]
    · iapply (Entails.of_eq (congrArg (fun f => (oLoc d ↦[oRows (base L)]{fullShare} f : sProp 𝕄)) (outAt_zero m d (base L)).symm)) $$ Ho
    iexists _; isplitr
    swap; · iexact HO
    ipureintro; intro p hp
    rcases Finset.mem_insert.mp hp with hp | hp; · exact .inr (hp ▸ rfl)
    exact .inl hp
  iintro %_ HI
  ihave HI := (Entails.of_eq (congrArg (fun g => rounds m d L O W q g) (show Scf.trips k0_t2_loop.lb k0_t2_loop.ub k0_t2_loop.st = 15 by decide))) $$ HI
  unfold rounds
  icases HI with ⟨-, H1, H2, H3, H4, Ho, S1, S2, S3, S4, HO⟩
  iapply (finish m d (cV L) (jV L) (base L) O W b1 cc0_scratch5.sem cc0_scoped5.sem (leaf 2 q 0) (leaf 2 fullShare 0) 7680 (by omega)
    _ (k0_off6_inb L 0) (off6_at L 0 _ rfl) (congrFun (k0_off6_eq L 0) 1)) $$ [H1 Ho S5 HO]
  · iframe Hmw H1 Ho S5 HO
  iintro ⟨⟨B1, X1, L1, P1⟩, Ho, S5, HO⟩
  iapply (finish m d (cV L) (jV L) (base L) O W b2 cc0_scratch6.sem cc0_scoped6.sem (leaf 2 q 1) (leaf 2 fullShare 1) 7808 (by omega)
    _ (k0_off6_inb L 1) (off6_at L 1 _ rfl) (congrFun (k0_off6_eq L 1) 1)) $$ [H2 Ho S6 HO]
  · iframe Hmw H2 Ho S6 HO
  iintro ⟨⟨B2, X2, L2, P2⟩, Ho, S6, HO⟩
  iapply (finish m d (cV L) (jV L) (base L) O W b3 cc0_scratch7.sem cc0_scoped7.sem (leaf 2 q 2) (leaf 2 fullShare 2) 7936 (by omega)
    _ (k0_off6_inb L 2) (off6_at L 2 _ rfl) (congrFun (k0_off6_eq L 2) 1)) $$ [H3 Ho S7 HO]
  · iframe Hmw H3 Ho S7 HO
  iintro ⟨⟨B3, X3, L3, P3⟩, Ho, S7, HO⟩
  iapply (finish m d (cV L) (jV L) (base L) O W b4 cc0_scratch8.sem cc0_scoped8.sem (leaf 2 q 3) (leaf 2 fullShare 3) 8064 (by omega)
    _ (k0_off6_inb L 3) (off6_at L 3 _ rfl) (congrFun (k0_off6_eq L 3) 1)) $$ [H4 Ho S8 HO]
  · iframe Hmw H4 Ho S8 HO
  iintro ⟨⟨B4, X4, L4, P4⟩, Ho, S8, HO⟩
  unfold owing
  icases HO with ⟨%W', %hW', HO⟩
  sl_step
  isplitl [Hi X1 X2 X3 X4 Ho]
  · isplitl [Hi]
    · iapply (Entails.of_eq (show ((iOwn L).view.loc (V d (cV L) (jV L)) ↦[(iOwn L).view.set]{fullShare} m (iLoc d) : sProp 𝕄)
        = iLoc d ↦[iRows (base L)]{fullShare} m (iLoc d) by rw [set_iOwn])) $$ Hi
    isplitl [X1 X2 X3 X4]
    · iapply (Entails.of_eq (four_shares (ℓ := xLoc d) (m (xLoc d)) q).symm)
      iframe X1 X2 X3 X4
    iapply (Entails.of_eq (pointsTo_congr (outAt_full m d (base L)))) $$ Ho
  isplitl [L1 L2 L3 L4 B1 B2 B3 B4 Hbufs]
  · iframe B1 B2 B3 B4 Hbufs
    iexists (list m d (base L))
    iapply (Entails.of_eq (four_shares (ℓ := sV.view.loc (V d (cV L) (jV L))) (list m d (base L)) fullShare).symm)
    iframe L1 L2 L3 L4
  isplitl [P1 P2 P3 P4 S0 S1 S2 S3 S4 S5 S6 S7 S8 Hsems]
  · iframe P1 P2 P3 P4 S0 S1 S2 S3 S4 S5 S6 S7 S8 Hsems
  iexists W'; isplitr
  · ipureintro; exact hW'
  iexact HO

end Cert.Proof.KernelIdeal

end
-- ==== Proof.LaunchIdeal.lean ====
/-
  The whole launch: the arrays cut into thirty-two pieces, one for each task, and put back together; the launch's run; and
  what it leaves: the output at the rows that the indices name, the three arguments as before.
-/
module

public import proofs.«01_k».proof.Proof.TileIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg) (d : Dev nD)

/-! ## The arrays as thirty-two pieces -/

/-- A task by its number among the thirty-two: twice the subcore's plus the core's. -/
def taskOf : Fin 2 × Fin 16 ≃ Fin 32 := (Equiv.prodComm (Fin 2) (Fin 16)).trans (finProdFinEquiv (m := 16) (n := 2))

theorem taskOf_val (c : Fin 2) (i : Fin 16) : (taskOf (c, i)).val = 2 * i.val + c.val := by
  unfold taskOf
  refine (finProdFinEquiv_apply_val (m := 16) (n := 2) (i, c)).trans ?_
  exact Nat.add_comm _ _

/-- What task `t` works on, the output's rows at contents `f`. -/
def pieceOf (f : Buf (Elt F) (oLoc d)) (t : Fin 32) : sProp 𝕄 := piece m d (8192 * t.val) (leaf 5 fullShare t) f

/-- The index array, the data and the output whole, the output at contents `f`. -/
def whole (f : Buf (Elt F) (oLoc d)) : sProp 𝕄 :=
  iprop((iLoc d ↦{fullShare} m (iLoc d)) ∗ (xLoc d ↦{fullShare} m (xLoc d)) ∗ (oLoc d ↦{fullShare} f))

theorem iRows_disjoint : ∀ s ∈ (Finset.univ : Finset (Fin 32)), ∀ t ∈ (Finset.univ : Finset (Fin 32)), s ≠ t → Disjoint (iRows (8192 * s.val)) (iRows (8192 * t.val)) := by
  intro s _ t _ hst
  refine Finset.disjoint_left.mpr fun j h1 h2 => hst (Fin.ext ?_)
  have h1 := (Finset.mem_filter.mp h1).2
  have h2 := (Finset.mem_filter.mp h2).2
  omega
theorem oRows_disjoint : ∀ s ∈ (Finset.univ : Finset (Fin 32)), ∀ t ∈ (Finset.univ : Finset (Fin 32)), s ≠ t → Disjoint (oRows (8192 * s.val)) (oRows (8192 * t.val)) := by
  intro s _ t _ hst
  refine Finset.disjoint_left.mpr fun j h1 h2 => hst (Fin.ext ?_)
  have h1 := (Finset.mem_filter.mp h1).2
  have h2 := (Finset.mem_filter.mp h2).2
  omega
theorem iRows_cover : (Finset.univ : Finset (Fin 32)).biUnion (fun t => iRows (8192 * t.val)) = Finset.univ := by
  refine Finset.eq_univ_of_forall fun j => ?_
  have hj : (j 0).val < 262144 := (j 0).isLt
  refine Finset.mem_biUnion.mpr ⟨⟨(j 0).val / 8192, by omega⟩, Finset.mem_univ _, Finset.mem_filter.mpr ⟨Finset.mem_univ _, ?_, ?_⟩⟩
  · show 8192 * ((j 0).val / 8192) ≤ _; omega
  · show _ < 8192 * ((j 0).val / 8192) + 8192; omega
theorem oRows_cover : (Finset.univ : Finset (Fin 32)).biUnion (fun t => oRows (8192 * t.val)) = Finset.univ := by
  refine Finset.eq_univ_of_forall fun j => ?_
  have hj : (j 0).val < 262144 := (j 0).isLt
  refine Finset.mem_biUnion.mpr ⟨⟨(j 0).val / 8192, by omega⟩, Finset.mem_univ _, Finset.mem_filter.mpr ⟨Finset.mem_univ _, ?_, ?_⟩⟩
  · show 8192 * ((j 0).val / 8192) ≤ _; omega
  · show _ < 8192 * ((j 0).val / 8192) + 8192; omega

/-- The three arrays whole are the thirty-two tasks' pieces, core by core and subcore by subcore. -/
theorem whole_eq (f : Buf (Elt F) (oLoc d)) :
    (whole m d f : sProp 𝕄) = bigSep Finset.univ fun c : Fin 2 => bigSep Finset.univ fun i : Fin 16 => pieceOf m d f (taskOf (c, i)) := by
  rw [← bigSep_univ_prod (fun ci : Fin 2 × Fin 16 => (pieceOf m d f (taskOf ci) : sProp 𝕄)), ← bigSep_univ_equiv taskOf (fun t => (pieceOf m d f t : sProp 𝕄))]
  unfold whole pieceOf piece
  rw [bigSep_sep', bigSep_sep']
  have hi : (iLoc d ↦{fullShare} m (iLoc d) : sProp 𝕄) = bigSep Finset.univ fun t : Fin 32 => iLoc d ↦[iRows (8192 * t.val)]{fullShare} m (iLoc d) := by
    rw [← pointsTo_biUnion Finset.univ (ℓ := iLoc d) (fun t : Fin 32 => iRows (8192 * t.val)) iRows_disjoint, iRows_cover]
  have ho : (oLoc d ↦{fullShare} f : sProp 𝕄) = bigSep Finset.univ fun t : Fin 32 => oLoc d ↦[oRows (8192 * t.val)]{fullShare} f := by
    rw [← pointsTo_biUnion Finset.univ (ℓ := oLoc d) (fun t : Fin 32 => oRows (8192 * t.val)) oRows_disjoint, oRows_cover]
  have hx : (xLoc d ↦{fullShare} m (xLoc d) : sProp 𝕄) = bigSep Finset.univ fun t : Fin 32 => xLoc d ↦{leaf 5 fullShare t} m (xLoc d) :=
    pointsTo_leaves Finset.univ (m (xLoc d)) 5 fullShare
  rw [hi, ho, hx]

instance piece_storable (b : ℕ) (q : PosShare TreeShare) (f : Buf (Elt F) (oLoc d)) : BI.Storable (upEmb : UEmb _ 𝕄) (piece m d b q f) := by
  unfold piece; infer_instance
instance pieceOf_storable (f : Buf (Elt F) (oLoc d)) (t : Fin 32) : BI.Storable (upEmb : UEmb _ 𝕄) (pieceOf m d f t) := by
  unfold pieceOf; infer_instance

/-! ## What the launch hands out and takes back -/

variable [FloatOps F]

/-- Each core is handed its sixteen tasks' pieces, each task its own; the output's rows come back as they are to be. -/
def P : (K (F := F)).Pay (nD := nD) (Val := Elt F) (Name := ℕ) (U := UU) where
  st := fun q d c => match q with | 0 => bigSep Finset.univ fun i : Fin 16 => pieceOf m d (m (oLoc d)) (taskOf (c, i))
  dn := fun q d c => match q with | 0 => bigSep Finset.univ fun i : Fin 16 => pieceOf m d (out m d) (taskOf (c, i))
  go := fun q d c i => match q with | 0 => pieceOf m d (m (oLoc d)) (taskOf (c, i))
  td := fun q d c i => match q with | 0 => pieceOf m d (out m d) (taskOf (c, i))
  x := fun _ _ => iprop(emp)

instance P_storable : (P (F := F) m).IsStorable where
  st q d c := match q with
    | 0 => (inferInstance : BI.Storable (upEmb : UEmb _ 𝕄) (bigSep Finset.univ fun i : Fin 16 => pieceOf m d (m (oLoc d)) (taskOf (c, i))))
  dn q d c := match q with
    | 0 => (inferInstance : BI.Storable (upEmb : UEmb _ 𝕄) (bigSep Finset.univ fun i : Fin 16 => pieceOf m d (out m d) (taskOf (c, i))))
  go q d c i := match q with
    | 0 => (inferInstance : BI.Storable (upEmb : UEmb _ 𝕄) (pieceOf m d (m (oLoc d)) (taskOf (c, i))))
  td q d c i := match q with
    | 0 => (inferInstance : BI.Storable (upEmb : UEmb _ 𝕄) (pieceOf m d (out m d) (taskOf (c, i))))

/-- A task's coordinates: its core's number and its subcore's. -/
def coordsOf (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsOf c s)
          xV (Memref.isWhole_whole _) iV (Memref.isWhole_whole _) oV (Memref.isWhole_whole _) sV (Memref.isWhole_whole _)
          b1 (Memref.isWhole_whole _) b2 (Memref.isWhole_whole _) b3 (Memref.isWhole_whole _) b4 (Memref.isWhole_whole _)
          cc0_scratch5 cc0_scratch6 cc0_scratch7 cc0_scratch8 cc0_scoped0 cc0_scoped1 cc0_scoped2 cc0_scoped3 cc0_scoped4
          cc0_scoped5 cc0_scoped6 cc0_scoped7 cc0_scoped8) ⟨⟩ c s := rfl

theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  iexact HO

set_option maxRecDepth 16384 in
/-- Every task, from its piece to its piece with its rows in place. -/
theorem tasks (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb : base (coordsOf ⟨_, hci.1⟩ ⟨_, hci.2⟩) = 8192 * (taskOf (c, i)).val := by
    rw [taskOf_val]
    show 16384 * i.val + 8192 * c.val = _
    omega
  have h := (tile_body m d (coordsOf ⟨_, hci.1⟩ ⟨_, hci.2⟩) O W launchFacts hpre (leaf 5 fullShare (taskOf (c, i))) hO).trans (wp_mono frame _ _ fun _ => post_weaken (q := 0))
  rw [hb] at h
  exact h

theorem split : (K (F := F)).VecSplit' (P m) 0 := by
  intro d c
  show (bigSep Finset.univ fun i : Fin 16 => pieceOf m d (m (oLoc d)) (taskOf (c, i))) ⊢ |={Set.univ}=> iprop(
      (bigSep Finset.univ fun i : Fin 16 => pieceOf m d (m (oLoc d)) (taskOf (c, i)))
      ∗ ((bigSep Finset.univ fun i : Fin 16 => pieceOf m d (out m d) (taskOf (c, i))) -∗ (bigSep Finset.univ fun i : Fin 16 => pieceOf m d (out m d) (taskOf (c, i)))))
  iintro H; imodintro
  isplitl [H]; · iexact H
  iintro H; iexact H

/-! ## The launch's ghost state -/

def u₀ : UU := (initOf (K (F := F)).hsCells (K (F := F)).hsToks, 1)

theorem nothing_each {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing_each]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing_each]
  iempintro

/-! ## The main program -/

theorem unscopedBufs_eq (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (nLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st_eq : (bigSep Finset.univ fun c : Fin ((K (F := F)).nCore 0) => (P m).st 0 d c) = whole m d (m (oLoc d)) := (whole_eq m d _).symm
theorem dn_eq : (bigSep Finset.univ fun c : Fin ((K (F := F)).nCore 0) => (P m).dn 0 d c) = whole m d (out m d) := (whole_eq m d _).symm

/-- What the main program ends with: the arrays whole, the output as it is to be, and the third argument. -/
def ends : sProp 𝕄 := iprop(whole m d (out m d) ∗ (nLoc d ↦{fullShare} m (nLoc d)))

theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ ends m d ∗ (K (F := F)).tcEnd d) := by
  unfold SparseCore.Cfg.tcRes SparseCore.Cfg.tcEnd ends
  rw [unscopedBufs_eq]
  simp only [main, wp_bind, wp_pure]
  iintro ⟨#Hctx, Hst, ⟨Hb, ⟨Hx, Hi, Hn, Ho⟩, Hts, -⟩, -⟩
  iapply ((K (F := F)).wp_run (D (F := F)) 𝒱 (EH := EH) (P := P m) κ d 0) $$ [Hst Hi Hx Ho Hn Hb Hts]
  isplitr; · iexact Hctx
  isplitl [Hst]; · iexact Hst
  isplitl [Hi Hx Ho]
  · rw [st_eq]
    unfold whole
    isplitl [Hi]; · iexact Hi
    isplitl [Hx]; · iexact Hx
    iexact Ho
  iintro ⟨Hst, Hdn⟩
  ihave Hdn := (Entails.of_eq (dn_eq m d)) $$ Hdn
  imodintro
  isplitl [Hst]; · iexact Hst
  isplitr [Hb Hts]
  · isplitl [Hdn]; · iexact Hdn
    iexact Hn
  isplitl [Hb] <;> iassumption

/-- The memory that the launch leaves on device `d`. -/
def leaves (s' : Phys nD τ sig (Elt F)) : Prop :=
  s'.mem.mem (oLoc d) = out m d ∧ s'.mem.mem (xLoc d) = m (xLoc d) ∧ s'.mem.mem (iLoc d) = m (iLoc d) ∧ s'.mem.mem (nLoc d) = m (nLoc d)

set_option maxRecDepth 16384 in
theorem hfin (s' : Phys nD τ sig (Elt F)) : iprop(ends m d ∗ SI s') ⊢ (⌜leaves m d s'⌝ : sProp 𝕄) := by
  unfold ends whole leaves
  iintro ⟨⟨⟨Hi, Hx, Ho⟩, Hn⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (persistent_entails_right (SI_pointsTo_agree (st := s') (ℓ := oLoc d) (I := Finset.univ) (q := fullShare) (f := out m d))) $$ [HSI Ho]
  · isplitl [HSI] <;> iassumption
  icases H with ⟨%h3, HSI, -⟩
  ihave H := (SI_pointsTo_agree (st := s') (ℓ := nLoc d) (I := Finset.univ) (q := fullShare) (f := m (nLoc d))) $$ [HSI Hn]
  · isplitl [HSI] <;> iassumption
  icases H with %h4
  ipureintro
  exact ⟨funext fun j => h3 j (Finset.mem_univ j), funext fun j => h2 j (Finset.mem_univ j), funext fun j => h1 j (Finset.mem_univ j), funext fun j => h4 j (Finset.mem_univ j)⟩

/-! ## The run -/

/-- The kernel's run from a memory whose indices are in range: the output ends at the rows that the indices name, the
    arguments are unchanged, and every semaphore ends at zero. -/
theorem run_main [∀ e, Nonempty (Elt F e)] (hpre : PreOK m) :
    θ_run (Cert.KernelIdeal.defs (F := F)) (Cert.KernelIdeal.threads (F := F)) ⟨m, fun _ => 0, ρ⟩
      fun r => (∀ d : Dev nD, r.2.mem (oLoc d) = out m d ∧ r.2.mem (xLoc d) = m (xLoc d) ∧ r.2.mem (iLoc d) = m (iLoc d) ∧ r.2.mem (nLoc d) = m (nLoc d))
        ∧ r.2.sem = fun _ => 0 :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tasks m hpre)
    (fun q _ => match q with | 0 => SparseCore.Cfg.VecSplit.of_plain (split m))
    m ρ main (fun _ => iprop(emp)) (ends m) (u₀ (F := F)) (sep_elim_left.trans (hu₀ m)) (fun κ d => hmain m ρ d κ) (leaves m) (fun d => hfin m d) _ (fun _ h hz => ⟨h, hz⟩)

end Cert.Proof.KernelIdeal

end
-- ==== Proof.Reference.lean ====
/-
  What the reference computes from indices below 524288: row `r` of its result is the data's row at an eighth of index
  `r`, rounded down.
-/
module

public import proofs.«01_k».proof.Defs
public import proofs.«01_k».proof.Proof.Gen.ReferenceIdeal
public import proofs.«01_k».proof.Proof.Gen.ReferenceIdeal.Run
public import Idealize.ShloMosaic.Lib.ReduceAll
public import Idealize.ShloMosaic.Lib.WordCmp
public import Idealize.ShloMosaic.Lib.Quiescent
public import Idealize.ShloMosaic.Lib.Routing.Ops

@[expose] public section

noncomputable section

namespace Cert.Proof.ReferenceIdeal

open Cert.ReferenceIdeal Cert.ReferenceIdeal.Gen
open Idealize.ShloMosaic Idealize.ShloMosaic.ValueIdx Idealize.SL.Sem

variable {F : FTy → Type} [FloatOps F]

/-- The rows the reference gathers: each index, plus 524288 where it is negative, as a column. -/
def starts (ids : IVec S262144 32) : IVec S262144x1 32 :=
  broadcastInDim S262144x1 ![0] bcast_S262144_S262144x1_0 (select (cmpi .slt ids (broadcastInDim S262144 ![] bcast_S_S262144 (constantI S_ 32 0#32)))
    (addi ids (broadcastInDim S262144 ![] bcast_S_S262144 (constantI S_ 32 524288#32))) ids)

/-- The data with each row eight times over, as the reference lays it out. -/
def repeated (x : FVec F S65536x128 .f32) : FVec F S524288x128 .f32 :=
  shapeCast S524288x128 (broadcastInDim S65536x8x128 ![0, 2] bcast_S65536x128_S65536x8x128_0_2 x) shapeCasts_S65536x8x128_S524288x128

/-- For each index, the bit saying that its row is one of the repeated data's. -/
def inside (ids : IVec S262144 32) : IVec S262144 1 :=
  Host.reduce IntOp.andi (andi (cmpi .sge (starts ids) (broadcastInDim S262144x1 ![] bcast_S_S262144x1 (constantI S_ 32 0#32)))
    (cmpi .sle (starts ids) (broadcastInDim S262144x1 ![0, 1] bcast_S1x1_S262144x1_0_1 (broadcastInDim S1x1 ![1] bcast_S1_S1x1_1 (constantI S1 32 524287#32)))))
    (constantI S_ 1 1#1) reducesTo_S262144x1_S262144_d1 h_S_

/-- The reference's result as a function of the data and the indices. -/
def value (x : FVec F S65536x128 .f32) (ids : IVec S262144 32) : FVec F S262144x128 .f32 :=
  select (broadcastInDim S262144x128 ![0] bcast_S262144_S262144x128_0 (inside ids))
    (Host.gather gather_S524288x128_S262144x1_S262144x128_1_0_n_n_0_1_1128 (repeated x) (starts ids))
    (broadcastInDim S262144x128 ![] bcast_S_S262144x128 (constant S_ .f32 0x7FC00000#32))

/-- Row `r` of the repeated data is row `r / 8` of the data. -/
theorem repeated_at (x : FVec F S65536x128 .f32) (r : Fin 524288) (l : Fin 128) (q : Fin 65536) (hq : q.val = r.val / 8) :
    repeated x (ix2 r l) = x (ix2 q l) := by
  unfold repeated
  refine (shapeCast_apply _ _ _ (ix3 q (⟨r.val % 8, Nat.mod_lt _ (by decide)⟩ : Fin 8) l) ?_).trans ?_
  · rw [Shape.rowMajor_val_three, Shape.rowMajor_val_two]
    show (q.val * 8 + r.val % 8) * 128 + l.val = r.val * 128 + l.val
    omega
  · refine broadcastInDim_apply _ _ _ _ (ix2 q l) fun a => ?_
    match a with
    | ⟨0, _⟩ => rfl
    | ⟨1, _⟩ => rfl

variable (ids : IVec S262144 32) (hlt : ∀ j, (ids j).toNat < 524288)
include hlt

/-- An index below 524288 is gathered at its own row. -/
theorem starts_at (c : Fin 262144) : starts ids (ix2 c (0 : Fin 1)) = ids (ix1 c) := by
  unfold starts
  refine (broadcastInDim_apply _ _ _ _ (ix1 c) fun a => ?_).trans ?_
  · match a with
    | ⟨0, _⟩ => rfl
  · have h := hlt (ix1 c)
    show Scalar.select (IntOp.cmpi .slt (ids (ix1 c)) 0#32) _ (ids (ix1 c)) = _
    rw [WordCmp.cmpi_slt_of_lt (show (ids (ix1 c)).toNat < 2147483648 by omega) (by decide), decide_eq_false (by simp)]
    rfl

/-- Every index's bit is set. -/
theorem inside_at (j : S262144.Idx) : inside ids j = 1#1 := by
  refine Host.reduce_andi_one _ _ _ _ j rfl fun i => ?_
  obtain ⟨c, z, rfl⟩ : ∃ (c : Fin 262144) (z : Fin 1), i = ix2 c z := ⟨i 0, i 1, eq_ix2 i⟩
  obtain rfl : z = 0 := Subsingleton.elim _ _
  show IntOp.andi (IntOp.cmpi .sge (starts ids (ix2 c (0 : Fin 1))) 0#32) (IntOp.cmpi .sle (starts ids (ix2 c (0 : Fin 1))) 524287#32) = 1#1
  rw [starts_at ids hlt c]
  have h := hlt (ix1 c)
  have hh : (ids (ix1 c)).toNat < 2147483648 := by omega
  rw [WordCmp.cmpi_sge_of_lt hh (by decide), WordCmp.cmpi_sle_of_lt hh (by decide),
    decide_eq_true (by simp), decide_eq_true (show (ids (ix1 c)).toNat ≤ (524287#32).toNat by rw [show (524287#32).toNat = 524287 from rfl]; omega)]
  rfl

/-- Entry `(c, l)` of the reference's result is entry `(q, l)` of the data, `q` an eighth of index `c`, rounded down. -/
theorem value_at (x : FVec F S65536x128 .f32) (c : Fin 262144) (l : Fin 128) (q : Fin 65536) (hq : q.val = (ids (ix1 c)).toNat / 8) :
    value x ids (ix2 c l) = x (ix2 q l) := by
  have h := hlt (ix1 c)
  have hb : broadcastInDim S262144x128 ![0] bcast_S262144_S262144x128_0 (inside ids) (ix2 c l) = 1#1 :=
    (broadcastInDim_apply _ _ _ _ (ix1 c) fun a => match a with | ⟨0, _⟩ => rfl).trans (inside_at ids hlt (ix1 c))
  unfold value
  rw [select_apply, hb, select_one,
    Routing.gather_row gather_S524288x128_S262144x1_S262144x128_1_0_n_n_0_1_1128 rfl rfl rfl rfl rfl (repeated x) (starts ids) c l
      ⟨(ids (ix1 c)).toNat, h⟩ ((starts_at ids hlt c).trans (BitVec.ofNat_toNat 32 _ |>.trans (BitVec.setWidth_eq _)).symm) (by decide)]
  exact repeated_at x _ l q hq

omit hlt

/-- Every run of the reference ends with its result at `value` of the data and the indices, the arguments as they
    were, and every semaphore at zero (it has none). -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2) = value (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => h c, sem_eq_zero_of_no_sems (by decide) r.2⟩) (Value.run m ρ)

end Cert.Proof.ReferenceIdeal

end
-- ==== Proof.lean ====
/-
  The proof of the certificate's claim: the frames of the kernel and of the reference, and the equality of their results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Pre
public import proofs.«01_k».proof.Proof.Launch
public import proofs.«01_k».proof.Proof.LaunchIdeal
public import proofs.«01_k».proof.Proof.Reference
public import Idealize.ShloMosaic.Adequacy
public import Idealize.ShloMosaic.Init

@[expose] public section

noncomputable section

namespace Cert.Proof

open Idealize.ShloMosaic Idealize.ShloMosaic.ValueIdx Idealize.SL.Sem

/-- The kernel terminates without fault, its arguments unchanged and every semaphore at zero. -/
theorem frame_kernel : Cert.quiescent_Kernel := by
  intro m ρ h
  exact (θ_run Cert.Kernel.defs _ _).mono (fun _ h => ⟨fun c => (h.1 c).2, h.2⟩)
    (Kernel.run_main (F := Bits) m ρ fun d j => indices_below _ _ _ (h d) j)

/-- The same at exact arithmetic. -/
theorem frame_ideal : Cert.quiescent_KernelIdeal := by
  intro m ρ h
  exact (θ_run Cert.KernelIdeal.defs _ _).mono (fun _ h => ⟨fun c => (h.1 c).2, h.2⟩)
    (KernelIdeal.run_main (F := Ideal) m ρ fun d j => indices_below _ _ _ (h d) j)

/-- The reference terminates without fault, its arguments unchanged and every semaphore at zero, whatever the indices. -/
theorem frame_reference : Cert.quiescent_ReferenceIdeal := by
  intro m ρ _
  exact (θ_run Cert.ReferenceIdeal.defs _ _).mono (fun _ h => ⟨fun c => (h.1 c).2, h.2⟩) (ReferenceIdeal.run_main (F := Ideal) m ρ)

/-- So it does in particular from indices in range. -/
theorem frame_reference_in_range : Cert.quiescent_ReferenceIdeal_pre_in_range := by
  intro m ρ _
  exact (θ_run Cert.ReferenceIdeal.defs _ _).mono (fun _ h => ⟨fun c => (h.1 c).2, h.2⟩) (ReferenceIdeal.run_main (F := Ideal) m ρ)

/-- From indices below 524288 the reference's value is what the kernel leaves in its output. -/
theorem value_eq_out {F : FTy → Type} [FloatOps F] (m : (ℓ : Loc Cert.KernelIdeal.nD Cert.KernelIdeal.τ Cert.KernelIdeal.sig) → Buf (Elt F) ℓ)
    (hpre : KernelIdeal.PreOK m) (d : Dev Cert.KernelIdeal.nD) :
    ReferenceIdeal.value (F := F) (m (KernelIdeal.xLoc d)) (m (KernelIdeal.iLoc d)) = KernelIdeal.out m d := by
  funext j
  obtain ⟨c, l, rfl⟩ : ∃ (c : Fin 262144) (l : Fin 128), j = ix2 c l := ⟨j 0, j 1, eq_ix2 j⟩
  have hi : KernelIdeal.iAt c.val c.isLt = ix1 c := funext fun a => match a with | ⟨0, _⟩ => rfl
  have hw : KernelIdeal.word m d c.val = m (KernelIdeal.iLoc d) (ix1 c) := by
    unfold KernelIdeal.word; rw [dif_pos c.isLt, hi]
  have hs := KernelIdeal.word_shift_lt m d hpre c.val
  refine (ReferenceIdeal.value_at (m (KernelIdeal.iLoc d)) (fun j => hpre d j) (m (KernelIdeal.xLoc d)) c l
    ⟨(KernelIdeal.word m d c.val >>> 3).toNat % 65536, Nat.mod_lt _ (by decide)⟩ ?_).trans ?_
  · show (KernelIdeal.word m d c.val >>> 3).toNat % 65536 = _
    rw [Nat.mod_eq_of_lt hs, hw, BitVec.toNat_ushiftRight, Nat.shiftRight_eq_div_pow]
  · show _ = m (KernelIdeal.xLoc d) (KernelIdeal.xAt _ _ _)
    exact congrArg (m (KernelIdeal.xLoc d)) (funext fun a => match a with | ⟨0, _⟩ => rfl | ⟨1, _⟩ => rfl)

/-- The kernel and the reference, both at exact arithmetic, run from equal arguments to equal results. -/
theorem equal_results : Cert.algebraic_KernelIdeal_ReferenceIdeal := by
  intro m ρ m' ρ' h hagree
  have hpre : KernelIdeal.PreOK m := fun d j => indices_below _ _ _ (h d) j
  refine ⟨fun c => KernelIdeal.out m c, (θ_run Cert.KernelIdeal.defs _ _).mono (fun _ h c => h.1 c) (KernelIdeal.run_main (F := Ideal) m ρ hpre),
    (θ_run Cert.ReferenceIdeal.defs _ _).mono (fun _ h c => ⟨(h.1 c).1.trans ?_, (h.1 c).2⟩) (ReferenceIdeal.run_main (F := Ideal) m' ρ')⟩
  rw [(hagree c).1, (hagree c).2.1]
  exact value_eq_out m hpre c

theorem claim : Cert.Claim := ⟨Cert.Kernel.Gen.facts, Cert.KernelIdeal.Gen.facts, Cert.ReferenceIdeal.Gen.facts, Cert.Pre_in_range.Gen.facts,
  frame_kernel, frame_ideal, frame_reference, frame_reference_in_range, trivial, equal_results⟩

end Cert.Proof

end
